-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S_ : Shape := ⟨0, ![]⟩
abbrev S4 : Shape := ⟨1, ![4]⟩
abbrev S1 : Shape := ⟨1, ![1]⟩
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16384x1024, .f32⟩
  | _, _ => ⟨S4096x1024, .f32⟩

abbrev bufScoped : (cs : CoreSpace) → Fin (nBuf (.core cs)) → Bool
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let v41 : BitVec 32 := Scalar.muli v2 c4096_i32
  let c0_i32_26 : BitVec 32 := 0#32
  let v42 : BitVec 32 := Scalar.addi v41 c0_i32_26
  let c0_i32_27 : BitVec 32 := 0#32
  ![v42.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v48 : BitVec 32 := Scalar.muli v24 c1_i32_34
  let v49 : BitVec 32 := Scalar.addi c0_i32_35 v48
  v49.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_39 : BitVec 32 := 1#32
  let v55 : BitVec 32 := Scalar.muli v13 c1_i32_39
  let v56 : BitVec 32 := Scalar.addi c0_i32_40 v55
  v56.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c4096_i32_42 : BitVec 32 := 4096#32
  let v62 : BitVec 32 := Scalar.muli v13 c4096_i32_42
  let c0_i32_43 : BitVec 32 := 0#32
  let v63 : BitVec 32 := Scalar.addi v62 c0_i32_43
  let c0_i32_48 : BitVec 32 := 0#32
  ![v63.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c4096_i32_51 : BitVec 32 := 4096#32
  let v71 : BitVec 32 := Scalar.muli v13 c4096_i32_51
  let c0_i32_52 : BitVec 32 := 0#32
  let v72 : BitVec 32 := Scalar.addi v71 c0_i32_52
  let c0_i32_57 : BitVec 32 := 0#32
  ![v72.toNat, 0]
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_55 : BitVec 32 := 1#32
  let v73 : BitVec 32 := Scalar.muli v24 c1_i32_55
  let v74 : BitVec 32 := Scalar.addi c0_i32_56 v73
  v74.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c4096_i32_59 : BitVec 32 := 4096#32
  let v81 : BitVec 32 := Scalar.muli v24 c4096_i32_59
  let c0_i32_60 : BitVec 32 := 0#32
  let v82 : BitVec 32 := Scalar.addi v81 c0_i32_60
  let c0_i32_65 : BitVec 32 := 0#32
  ![v82.toNat, 0]
def k0_off5 (d0 : Dev nD) (c1_i32_6 : BitVec 32) (c2048_i32_68 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c4096_i32_67 : BitVec 32 := 4096#32
  let v90 : BitVec 32 := Scalar.muli v24 c4096_i32_67
  let v91 : BitVec 32 := Scalar.addi v90 c2048_i32_68
  let c0_i32_72 : BitVec 32 := 0#32
  ![v91.toNat, 0]
def k0_off5_at (r : Fin 3) : BitVec 32 × BitVec 32 :=
  if r.val < 1 then
    (1#32, 2048#32)
  else
    if r.val < 2 then
      (2#32, 0#32)
    else
      (2#32, 2048#32)
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_70 : BitVec 32 := 1#32
  let v92 : BitVec 32 := Scalar.muli v13 c1_i32_70
  let v93 : BitVec 32 := Scalar.addi c0_i32_71 v92
  v93.toNat
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Regions.lean ====
/-
# The all-gather: the ring of devices, the row ranges of the result, the gathered array

Four devices in a ring. Device `c` holds four thousand and ninety-six rows `x c` of the argument (a BLOCK); the result,
on every device, is the four blocks one below another. The kernel copies a device's own block into its own result, sends it
to both neighbours, and passes on half of each block it receives: the upper half of the rows of `prv c`'s block to `nxt c`,
the lower half of `nxt c`'s block to `prv c`. Every destination is a range of rows of the result, so the memory of the
result is held by ranges of rows: whole blocks (`blk`) and half blocks (`half`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

/-- The device after `c` (to its right), the one before it (to its left), and the one across. -/
def nxt (c : Dev nD) : Dev nD := c + 1
def prv (c : Dev nD) : Dev nD := c + 3
def opp (c : Dev nD) : Dev nD := c + 2

theorem prv_nxt (c : Dev nD) : prv (nxt c) = c := by revert c; decide
theorem nxt_prv (c : Dev nD) : nxt (prv c) = c := by revert c; decide
theorem prv_prv (c : Dev nD) : prv (prv c) = opp c := by revert c; decide
theorem nxt_nxt (c : Dev nD) : nxt (nxt c) = opp c := by revert c; decide
theorem opp_nxt (c : Dev nD) : opp (nxt c) = prv c := by revert c; decide
theorem opp_prv (c : Dev nD) : opp (prv c) = nxt c := by revert c; decide

/-- One step around the ring. -/
def turn : Dev nD ≃ Dev nD := ⟨nxt, prv, prv_nxt, nxt_prv⟩

/-- A device, the one before, the one after and the one across are the four. -/
theorem devs_list (c : Dev nD) : (Finset.univ : Finset (Dev nD)) = [c, prv c, nxt c, opp c].toFinset := by revert c; decide
theorem devs_nodup (c : Dev nD) : [c, prv c, nxt c, opp c].Nodup := by revert c; decide

/-! ## The devices and rows the kernel computes -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel

theorem off1_eq (c : Dev nD) : k0_off1 c = ![4096 * c.val, 0] := by revert c; decide +kernel
theorem off2_eq (c : Dev nD) : k0_off2 c = ![4096 * (prv c).val, 0] := by revert c; decide +kernel
theorem off3_eq (c : Dev nD) : k0_off3 c = ![4096 * (prv c).val, 0] := by revert c; decide +kernel
theorem off4_eq (c : Dev nD) : k0_off4 c = ![4096 * (nxt c).val, 0] := by revert c; decide +kernel
theorem off5_eq_nxt (c : Dev nD) : k0_off5 c 1#32 2048#32 = ![4096 * (nxt c).val + 2048, 0] := by revert c; decide +kernel
theorem off5_eq_lo (c : Dev nD) : k0_off5 c 2#32 0#32 = ![4096 * (opp c).val, 0] := by revert c; decide +kernel
theorem off5_eq_hi (c : Dev nD) : k0_off5 c 2#32 2048#32 = ![4096 * (opp c).val + 2048, 0] := by revert c; decide +kernel

/-! ## Ranges of rows -/

/-- The elements of the result in rows `a` to `b - 1`. -/
def rows (a b : ℕ) : Finset S16384x1024.Idx := Finset.univ.filter fun i => a ≤ (i 0).val ∧ (i 0).val < b

theorem mem_rows {a b : ℕ} {i : S16384x1024.Idx} : i ∈ rows a b ↔ a ≤ (i 0).val ∧ (i 0).val < b := by
  unfold rows; rw [Finset.mem_filter]; exact and_iff_right (Finset.mem_univ _)

/-- The rows of device `d`'s block; their first and second half. -/
def blk (d : Dev nD) : Finset S16384x1024.Idx := rows (4096 * d.val) (4096 * d.val + 4096)
def lo (d : Dev nD) : Finset S16384x1024.Idx := rows (4096 * d.val) (4096 * d.val + 2048)
def hi (d : Dev nD) : Finset S16384x1024.Idx := rows (4096 * d.val + 2048) (4096 * d.val + 2048 + 2048)

theorem lo_hi_disjoint (d : Dev nD) : Disjoint (lo d) (hi d) := by
  refine Finset.disjoint_left.mpr fun i h h' => ?_
  have h := mem_rows.mp h; have h' := mem_rows.mp h'; omega

theorem lo_union_hi (d : Dev nD) : lo d ∪ hi d = blk d := by
  ext i; unfold lo hi blk; rw [Finset.mem_union, mem_rows, mem_rows, mem_rows]; omega

theorem blk_disjoint {d d' : Dev nD} (h : d ≠ d') : Disjoint (blk d) (blk d') := by
  refine Finset.disjoint_left.mpr fun i hi hi' => h (Fin.ext ?_)
  have hi := mem_rows.mp hi; have hi' := mem_rows.mp hi'; omega

theorem biUnion_blk : (Finset.univ : Finset (Dev nD)).biUnion blk = Finset.univ := by
  ext i
  refine iff_of_true (Finset.mem_biUnion.mpr ?_) (Finset.mem_univ i)
  have hi : (i 0).val < 16384 := (i 0).isLt
  exact ⟨⟨(i 0).val / 4096, by show _ < 4; omega⟩, Finset.mem_univ _, mem_rows.mpr (by dsimp only; omega)⟩

/-- A range of rows of the whole width, as the kernel names it, is `rows`. -/
theorem rect_set {off size : Fin 2 → ℕ} (inb : ∀ a, off a + size a ≤ S16384x1024.size a) {o n : ℕ} (ho : off = ![o, 0]) (hn : size = ![n, 1024]) :
    (Rect.unit (s := S16384x1024) off size inb).set = rows o (o + n) := by
  subst ho; subst hn
  ext i
  rw [Rect.mem_set_unit, mem_rows]
  refine (Fin.forall_fin_two (p := fun a : Fin 2 => ![o, 0] a ≤ (i a).val ∧ (i a).val < ![o, 0] a + ![n, 1024] a)).trans ?_
  have : (i 1).val < 1024 := (i 1).isLt
  show ((o ≤ (i 0).val ∧ (i 0).val < o + n) ∧ (0 ≤ (i 1).val ∧ (i 1).val < 0 + 1024)) ↔ _
  omega

/-! ## The memrefs -/

/-- A device's block of the argument, whole. -/
abbrev xM : Memref sig .tc .hbm S4096x1024 .f32 := Memref.whole main_arg0
/-- Ranges of the result, of a block's or half a block's size, at the offsets the kernel computed. -/
abbrev oB (off : Fin 2 → ℕ) (inb : ∀ a, off a + S4096x1024.size a ≤ S16384x1024.size a) : Memref sig .tc .hbm S4096x1024 .f32 :=
  (Memref.whole main_v1 : Memref sig .tc .hbm S16384x1024 .f32).slice (Rect.unit (s := S16384x1024) off S4096x1024.size inb) (fun _ => rfl)
abbrev oH (off : Fin 2 → ℕ) (inb : ∀ a, off a + S2048x1024.size a ≤ S16384x1024.size a) : Memref sig .tc .hbm S2048x1024 .f32 :=
  (Memref.whole main_v1 : Memref sig .tc .hbm S16384x1024 .f32).slice (Rect.unit (s := S16384x1024) off S2048x1024.size inb) (fun _ => rfl)

theorem oB_set {off : Fin 2 → ℕ} (inb) (d : Dev nD) (ho : off = ![4096 * d.val, 0]) : (oB off inb).view.set = blk d :=
  (View.set_slice_whole main_v1 _).trans (rect_set inb ho rfl)
theorem oH_set_lo {off : Fin 2 → ℕ} (inb) (d : Dev nD) (ho : off = ![4096 * d.val, 0]) : (oH off inb).view.set = lo d :=
  (View.set_slice_whole main_v1 _).trans (rect_set inb ho rfl)
theorem oH_set_hi {off : Fin 2 → ℕ} (inb) (d : Dev nD) (ho : off = ![4096 * d.val + 2048, 0]) : (oH off inb).view.set = hi d :=
  (View.set_slice_whole main_v1 _).trans (rect_set inb ho rfl)
theorem xM_set : xM.view.set = Finset.univ := View.set_whole _

/-- What a transfer of a block and of half a block adds to each semaphore it completes on. -/
def NB : ℕ := xM.view.dmaCredit
def NH : ℕ := (oH ![0, 0] (by decide)).view.dmaCredit
theorem NB_pos : 0 < NB := View.dmaCredit_pos _ (by decide)
theorem NH_pos : 0 < NH := View.dmaCredit_pos _ (by decide)
theorem credit_x : xM.view.dmaCredit = NB := rfl
theorem credit_oB {off : Fin 2 → ℕ} (inb) : (oB off inb).view.dmaCredit = NB := rfl
theorem credit_oH {off : Fin 2 → ℕ} (inb) : (oH off inb).view.dmaCredit = NH := rfl

/-! ## The gathered array -/

variable (m : (ℓ : Loc nD τ sig) → Buf (Elt F) ℓ)

/-- The block device `d` holds of the argument. -/
def x (d : Dev nD) : S4096x1024.Idx → Elt F .f32 := m ((d : Thread nD τ).loc main_arg0)

/-- The row of its block, and the block, an element of the result comes from. -/
def srcDev (i : S16384x1024.Idx) : Dev nD := ⟨(i 0).val / 4096, by have : (i 0).val < 16384 := (i 0).isLt; show _ < 4; omega⟩
def srcIdx (i : S16384x1024.Idx) : S4096x1024.Idx := Shape.pair (d := ![4096, 1024]) ⟨(i 0).val % 4096, Nat.mod_lt _ (by decide)⟩ (i 1)

/-- The four blocks one below another. -/
def gath : S16384x1024.Idx → Elt F .f32 := fun i => x m (srcDev i) (srcIdx i)

/-- A block written at its rows is the gathered array there. -/
theorem write_block (d : Dev nD) {off : Fin 2 → ℕ} (inb) (ho : off = ![4096 * d.val, 0])
    (fd : (oB off inb).view.ty.Contents (Elt F)) (i : S16384x1024.Idx) (hi : i ∈ (oB off inb).view.set) :
    (oB off inb).view.write (Elt F) fd (xM.view.read (Elt F) (x m d)) Finset.univ i = gath m i := by
  subst ho
  obtain ⟨j, -, rfl⟩ := Finset.mem_map.mp hi
  rw [View.write_emb_of_mem _ _ (Finset.mem_univ j)]
  show x m d j = x m (srcDev _) (srcIdx _)
  have hj : (j 0).val < 4096 := (j 0).isLt
  have e0 : (((oB ![4096 * d.val, 0] inb).view.emb j : S16384x1024.Idx) 0).val = 4096 * d.val + (j 0).val :=
    Rect.emb_apply _ _ _ |>.trans (by show 4096 * d.val + 1 * (j 0).val = _; omega)
  have e1 : (((oB ![4096 * d.val, 0] inb).view.emb j : S16384x1024.Idx) 1).val = (j 1).val :=
    Rect.emb_apply _ _ _ |>.trans (by show 0 + 1 * (j 1).val = _; omega)
  have hd : srcDev ((oB ![4096 * d.val, 0] inb).view.emb j) = d := Fin.ext (by show _ / 4096 = _; rw [e0]; omega)
  have hx : srcIdx ((oB ![4096 * d.val, 0] inb).view.emb j) = j := by
    refine funext (Fin.forall_fin_two.mpr ⟨Fin.ext ?_, Fin.ext ?_⟩)
    · show _ % 4096 = _; rw [e0]; omega
    · exact e1
  rw [hd, hx]

/-- What is read off the gathered array and written back at the same rows is the gathered array there. -/
theorem write_half {off : Fin 2 → ℕ} (inb) (fd : (oH off inb).view.ty.Contents (Elt F)) (i : S16384x1024.Idx) (hi : i ∈ (oH off inb).view.set) :
    (oH off inb).view.write (Elt F) fd ((oH off inb).view.read (Elt F) (gath m)) Finset.univ i = gath m i := by
  rw [View.write_read_eq_piecewise, View.setOn_univ, Finset.piecewise_eq_of_mem _ _ _ hi]

end Cert.AllGather

end
-- ==== Proof.Schedule.lean ====
/-
# The all-gather: its semaphores, what each transfer hands over, and what each device owes

A device has ten semaphores: the runtime's barrier, the semaphore of its own copy, four that its sends complete on and four
that its receives complete on. Each is used for one round. A neighbour's barrier signal hands over the ranges of the
neighbour's result that the device will write; a transfer's receive semaphore hands over the written range, holding the
gathered array, and its send semaphore hands the source back.
-/
module

public import proofs.«01_k».proof.Proof.Regions

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

abbrev UB : Type := URounds (GSem nD τ sig) Bool
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The runtime's barrier semaphore. -/
abbrev barS : Sem sig := (SemArray.scalar (sig.barrier 0 rfl) : Sems sig S_).sem
/-- The barrier, as one of a device's semaphores; and its transfers' semaphores: `0` its own copy's, `1` to `4` its sends',
    `5` to `8` its receives'. -/
abbrev bar : SemLoc sig := .reg barS
abbrev dma (q : Fin 9) : SemLoc sig := .dma (q : DmaSem sig)

/-- Semaphore `sm` of device `c`. -/
abbrev cell (c : Dev nD) (sm : SemLoc sig) : GSem nD τ sig := ((c : Thread nD τ), sm)

/-- The ten semaphores of a device. -/
def sems : List (SemLoc sig) := [bar, dma 0, dma 1, dma 2, dma 3, dma 4, dma 5, dma 6, dma 7, dma 8]
theorem sems_univ : (Finset.univ : Finset (SemLoc sig)) = sems.toFinset := by decide
theorem sems_nodup : sems.Nodup := by decide

/-! ## Memory -/

/-- Device `c`'s result, held over the elements `S`, at contents `f`. -/
def outPts (c : Dev nD) (S : Finset S16384x1024.Idx) (f : S16384x1024.Idx → Elt F .f32) : sProp 𝕄 :=
  ((c : Thread nD τ).loc main_v1) ↦[S]{fullShare} f
/-- A share of device `c`'s block of the argument, whole. -/
def xPts (c : Dev nD) (q : PosShare TreeShare) : sProp 𝕄 := ((c : Thread nD τ).loc main_arg0) ↦{q} x m c

instance outPts_storable (c : Dev nD) (S) (f) : BI.Storable (upEmb : UEmb _ 𝕄) (outPts (F := F) c S f) := by unfold outPts; infer_instance
instance xPts_storable (c : Dev nD) (q : PosShare TreeShare) : BI.Storable (upEmb : UEmb _ 𝕄) (xPts (F := F) m c q) := by unfold xPts; infer_instance

/-! ## The schedule -/

/-- What a barrier signal hands device `c`. The one from `nxt c`: the rows of `c`'s own block, and of the upper half of
    `prv c`'s block, in `nxt c`'s result. The one from `prv c`: the rows of `c`'s own block, and of the lower half of
    `nxt c`'s block, in `prv c`'s result. -/
def barPay (c : Dev nD) : Bool → sProp 𝕄
  | true => iprop((∃ f, outPts (nxt c) (blk c) f) ∗ ∃ f, outPts (nxt c) (lo (prv c)) f)
  | false => iprop((∃ f, outPts (prv c) (blk c) f) ∗ ∃ f, outPts (prv c) (hi (nxt c)) f)

/-- What a transfer hands device `c` on each of its semaphores. -/
def dmaPay (c : Dev nD) : Fin 9 → sProp 𝕄
  | 0 => iprop(outPts c (blk c) (gath m) ∗ xPts m c fullShare.left)
  | 1 => xPts m c fullShare.right.left
  | 2 => outPts c (lo (prv c)) (gath m)
  | 3 => xPts m c fullShare.right.right
  | 4 => outPts c (hi (nxt c)) (gath m)
  | 5 => outPts c (blk (prv c)) (gath m)
  | 6 => outPts c (lo (opp c)) (gath m)
  | 7 => outPts c (blk (nxt c)) (gath m)
  | 8 => outPts c (hi (opp c)) (gath m)

/-- How much a transfer adds on each: a block's credit, or half a block's. -/
def amt : Fin 9 → ℕ
  | 0 => NB | 1 => NB | 2 => NH | 3 => NB | 4 => NH | 5 => NB | 6 => NH | 7 => NB | 8 => NH
theorem amt_pos (q : Fin 9) : 0 < amt q := by
  rcases q with ⟨_ | _ | _ | _ | _ | _ | _ | _ | _ | q, h⟩ <;> first | exact NB_pos | exact NH_pos | exact absurd h (by omega)

/-- The payers of a semaphore's one round: two neighbours for the barrier, one transfer for the others. -/
def payers : SemLoc sig → Finset Bool
  | .reg _ => Finset.univ
  | .dma _ => {false}
def units : SemLoc sig → ℕ
  | .reg _ => 1
  | .dma q => amt q
def pay (c : Dev nD) : SemLoc sig → Bool → sProp 𝕄
  | .reg _, d => barPay c d
  | .dma q, _ => dmaPay m c q

theorem units_pos : ∀ sm : SemLoc sig, 0 < units sm
  | .reg _ => Nat.one_pos
  | .dma q => amt_pos q

/-- One round for every semaphore of every device's core. -/
def Rd : Rounds.Schedule (GSem nD τ sig) Bool 𝕄 where
  duties g r := if r = 0 ∧ g.1.2 = .tc then payers g.2 else ∅
  unitless _ := False
  amount g _ _ := units g.2
  payload g _ d := pay m g.1.1 g.2 d
  amount_pos g _ _ _ := units_pos g.2

instance barPay_storable (c : Dev nD) (d : Bool) : BI.Storable (upEmb : UEmb _ 𝕄) (barPay (F := F) c d) := by
  cases d <;> (unfold barPay; infer_instance)
instance dmaPay_storable (c : Dev nD) (q : Fin 9) : BI.Storable (upEmb : UEmb _ 𝕄) (dmaPay (F := F) m c q) := by
  rcases q with ⟨_ | _ | _ | _ | _ | _ | _ | _ | _ | q, h⟩ <;> first | exact absurd h (by omega) | (unfold dmaPay; infer_instance)
instance pay_storable (c : Dev nD) (sm : SemLoc sig) (d : Bool) : BI.Storable (upEmb : UEmb _ 𝕄) (pay (F := F) m c sm d) := by
  cases sm
  · exact barPay_storable c d
  · exact dmaPay_storable m c _
instance payload_storable (g : GSem nD τ sig) (r : ℕ) (d : Bool) : BI.Storable (upEmb : UEmb _ 𝕄) ((Rd (F := F) m).payload g r d) :=
  pay_storable m g.1.1 g.2 d

theorem duties_now (c : Dev nD) (sm : SemLoc sig) : (Rd (F := F) m).duties (cell c sm) 0 = payers sm := by dsimp only [Rd]; exact if_pos ⟨rfl, rfl⟩
theorem duties_later (g : GSem nD τ sig) (r : ℕ) (hr : 1 ≤ r) : (Rd (F := F) m).duties g r = ∅ := by dsimp only [Rd]; exact if_neg fun h => by omega

/-- A barrier's round is two units; a transfer's semaphore's is its credit. -/
theorem expect_bar (c : Dev nD) : (Rd (F := F) m).expect (cell c bar) 0 = 2 := by
  unfold Schedule.expect Schedule.amountOf; rw [duties_now]; rfl
theorem expect_dma (c : Dev nD) (q : Fin 9) : (Rd (F := F) m).expect (cell c (dma q)) 0 = amt q := by
  unfold Schedule.expect Schedule.amountOf; rw [duties_now]; exact Finset.sum_singleton _ _

/-- All that a round hands over. -/
theorem all_bar (c : Dev nD) : bigSep ((Rd (F := F) m).duties (cell c bar) 0 \ ∅) (fun d => (Rd (F := F) m).payload (cell c bar) 0 d)
    = iprop(barPay c false ∗ barPay c true) := by
  rw [Finset.sdiff_empty, duties_now]
  show bigSep Finset.univ (fun d => barPay c d) = _
  rw [bigSep_univ_eq_bigSepL [false, true] (by decide) (by decide), bigSepL_cons_cons, bigSepL_singleton]
  rfl
theorem all_dma (c : Dev nD) (q : Fin 9) :
    bigSep ((Rd (F := F) m).duties (cell c (dma q)) 0 \ ∅) (fun d => (Rd (F := F) m).payload (cell c (dma q)) 0 d) = dmaPay m c q := by
  rw [Finset.sdiff_empty, duties_now]; exact bigSep_singleton

/-! ## What each device owes at launch -/

/-- What device `c` still owes: after its first hop (`owe4`) the two half blocks it passes on; at launch (`owe0`) also the two
    whole blocks it sends and a unit to each neighbour's barrier. -/
def owe5 (c : Dev nD) : CellTallies nD τ sig Unit := tallyAt (cell (prv c) (dma 8)) () NH
def owe4 (c : Dev nD) : CellTallies nD τ sig Unit := owe5 c + tallyAt (cell (nxt c) (dma 6)) () NH
def owe3 (c : Dev nD) : CellTallies nD τ sig Unit := owe4 c + tallyAt (cell (prv c) (dma 7)) () NB
def owe2 (c : Dev nD) : CellTallies nD τ sig Unit := owe3 c + tallyAt (cell (nxt c) (dma 5)) () NB
def owe1 (c : Dev nD) : CellTallies nD τ sig Unit := owe2 c + tallyAt (cell (nxt c) bar) () 1
def owe0 (c : Dev nD) : CellTallies nD τ sig Unit := owe1 c + tallyAt (cell (prv c) bar) () 1

/-- The order in which the waits are safe: first the barrier, then the receives of whole blocks, then those of half blocks. -/
def lvS : SemLoc sig → ℕ
  | .reg _ => 1
  | .dma q => if q = (5 : Fin 9) ∨ q = (7 : Fin 9) then 2 else if q = (6 : Fin 9) ∨ q = (8 : Fin 9) then 3 else 0
def lv (g : GSem nD τ sig) (_ : Unit) : ℕ := lvS g.2
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L (cell c sm) = {()} := if_pos rfl

/-- All that `O` owes is owed to cores' semaphores above level `b`. -/
def Above (b : ℕ) (O : CellTallies nD τ sig Unit) : Prop := ∀ g u, 0 < O g u → (∃ c sm, g = cell c sm) ∧ b < lv g u

theorem above_zero (b : ℕ) : Above b 0 := fun g u h => absurd h (Nat.lt_irrefl 0)
theorem above_tally (b : ℕ) (c : Dev nD) (sm : SemLoc sig) (n : ℕ) (h : b < lvS sm) : Above b (tallyAt (cell c sm) () n) := fun g u hg => by
  rw [tallyAt_apply] at hg
  by_cases e : g = cell c sm ∧ u = ()
  · rw [e.1]; exact ⟨⟨c, sm, rfl⟩, h⟩
  · rw [if_neg e] at hg; exact absurd hg (Nat.lt_irrefl 0)
theorem above_add {b : ℕ} {O : CellTallies nD τ sig Unit} (hO : Above b O) (c : Dev nD) (sm : SemLoc sig) (n : ℕ) (h : b < lvS sm) :
    Above b (O + tallyAt (cell c sm) () n) := fun g u hg => by
  rw [Pi.add_apply, Finsupp.add_apply] at hg
  rcases Nat.eq_zero_or_pos (O g u) with e | e
  · rw [e, Nat.zero_add] at hg; exact above_tally b c sm n h g u hg
  · exact hO g u e

theorem above5 (c : Dev nD) {b : ℕ} (h : b < 3) : Above b (owe5 c) := above_tally b _ _ _ h
theorem above4 (c : Dev nD) {b : ℕ} (h : b < 3) : Above b (owe4 c) := above_add (above5 c h) _ _ _ h
theorem above2 (c : Dev nD) {b : ℕ} (h : b < 2) : Above b (owe2 c) :=
  above_add (above_add (above4 c (by omega)) _ _ _ h) _ _ _ h

/-- A device may wait on a semaphore while all it owes is owed above that semaphore's level. -/
theorem may_wait (c : Dev nD) (sm : SemLoc sig) (O : CellTallies nD τ sig Unit) (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by obtain ⟨⟨c', sm', rfl⟩, -⟩ := h g u hg; rw [L_tc]; exact Finset.mem_singleton_self _)
    (fun p hp => by rw [Finset.mem_singleton.mp hp]; exact Nat.le_refl _)
    (fun g u hg => (h g u hg).2)

/-! ## What every device starts from -/

/-- Every semaphore's invariant, at the names `K`, and that every semaphore has reached its round: the same for every device. -/
def records (K : Dev nD × SemLoc sig → ℕ) : sProp 𝕄 :=
  iprop((bigSep Finset.univ fun ck : Dev nD × SemLoc sig => cellInv ER (Rd m) (K ck) (cell ck.1 ck.2))
    ∗ bigSep Finset.univ fun ck : Dev nD × SemLoc sig => reached ER (cell ck.1 ck.2) 0)

instance records_persistent (K : Dev nD × SemLoc sig → ℕ) : BI.Persistent (records m K) := by unfold records; infer_instance

theorem inv_at (K : Dev nD × SemLoc sig → ℕ) (c : Dev nD) (sm : SemLoc sig) : records m K ⊢ cellInv ER (Rd m) (K (c, sm)) (cell c sm) := by
  unfold records
  exact (BI.sep_and.trans and_elimL).trans
    (bigSep_elim (Φ := fun ck : Dev nD × SemLoc sig => (cellInv ER (Rd m) (K ck) (cell ck.1 ck.2) : sProp 𝕄)) (Finset.mem_univ (c, sm)))
theorem reached_at (K : Dev nD × SemLoc sig → ℕ) (c : Dev nD) (sm : SemLoc sig) : records m K ⊢ reached ER (cell c sm) 0 := by
  unfold records
  exact (BI.sep_and.trans and_elimR).trans
    (bigSep_elim (Φ := fun ck : Dev nD × SemLoc sig => (reached ER (cell ck.1 ck.2) 0 : sProp 𝕄)) (Finset.mem_univ (c, sm)))

/-- The device whose semaphore `sm` device `c` pays: its own for its copy and its sends, `nxt c` for the barrier and the two
    receives of what travels to the right, `prv c` for the two receives of what travels to the left. -/
def payee : SemLoc sig → (Dev nD ≃ Dev nD)
  | .reg _ => turn
  | .dma q => if q = (5 : Fin 9) ∨ q = (6 : Fin 9) then turn else if q = (7 : Fin 9) ∨ q = (8 : Fin 9) then turn.symm else Equiv.refl _

/-- The duty tokens of device `c`'s semaphores; and of the duties that `c` pays. -/
def toks (c : Dev nD) : sProp 𝕄 :=
  iprop((bigSep Finset.univ fun sm : SemLoc sig => dutyTok ER (cell c sm) 0 false) ∗ dutyTok ER (cell c bar) 0 true)
def payToks (c : Dev nD) : sProp 𝕄 :=
  iprop((bigSep Finset.univ fun sm : SemLoc sig => dutyTok ER (cell (payee sm c) sm) 0 false) ∗ dutyTok ER (cell (prv c) bar) 0 true)

/-- Device `c` at the start of the round of each of its semaphores. -/
def posns (c : Dev nD) : sProp 𝕄 := bigSep Finset.univ fun sm : SemLoc sig => atPos ER (cell c sm) 0 ∅ 0

/-- What device `c` is dealt by the launch: the records, its positions and the tokens of the duties it pays; -/
def ghost (c : Dev nD) : sProp 𝕄 := iprop(∃ K, records m K ∗ posns c ∗ payToks c)

/-- and the credit it may wait for: the two units of its barrier, and its four receives. -/
def credits (c : Dev nD) : sProp 𝕄 :=
  iprop(cred (tallyAt (cell c bar) () 2) ∗ cred (tallyAt (cell c (dma 5)) () NB) ∗ cred (tallyAt (cell c (dma 6)) () NH)
    ∗ cred (tallyAt (cell c (dma 7)) () NB) ∗ cred (tallyAt (cell c (dma 8)) () NH))

/-- All ten counters of device `c` at zero. -/
def zeros (c : Dev nD) : sProp 𝕄 := bigSep Finset.univ fun sm : SemLoc sig => semVal (cell c sm) 0

/-! ## The result's memory, cut by rows -/

/-- Device `c`'s whole result is: its own block's rows, those of its neighbours' blocks, and the two halves of the rows of the
    block across. -/
theorem out_cut (c : Dev nD) (f : S16384x1024.Idx → Elt F .f32) :
    (((c : Thread nD τ).loc main_v1) ↦{fullShare} f : sProp 𝕄)
      = iprop(outPts c (blk c) f ∗ outPts c (blk (prv c)) f ∗ outPts c (blk (nxt c)) f ∗ outPts c (blk (opp c)) f) := by
  have h := pointsTo_biUnion (ℓ := (c : Thread nD τ).loc main_v1) (q := fullShare) (f := f) (Ix := Unit) (Val := Elt F) (Name := ℕ) (U := UU) (Lvl := ℕ)
    (Finset.univ : Finset (Dev nD)) blk (fun d _ d' _ hd => blk_disjoint hd)
  rw [biUnion_blk] at h
  rw [h, bigSep_univ_eq_bigSepL _ (devs_list c) (devs_nodup c), bigSepL_cons_cons, bigSepL_cons_cons, bigSepL_cons_cons, bigSepL_singleton]
  rfl

/-- A block's rows are its two halves'. -/
theorem blk_cut (c d : Dev nD) (f : S16384x1024.Idx → Elt F .f32) : (outPts c (blk d) f : sProp 𝕄) ⊣⊢ iprop(outPts c (lo d) f ∗ outPts c (hi d) f) := by
  rw [← lo_union_hi]; exact pointsTo_union (lo_hi_disjoint d)

/-- A device's block of the argument as the three shares its copy and its two sends read. -/
theorem x_cut (c : Dev nD) : (((c : Thread nD τ).loc main_arg0) ↦{fullShare} x m c : sProp 𝕄)
    ⊣⊢ iprop(xPts m c fullShare.left ∗ xPts m c fullShare.right.left ∗ xPts m c fullShare.right.right) :=
  (pointsTo_share (PosShare.mem_left_op_right fullShare)).trans
    (sep_congr_right (pointsTo_share (PosShare.mem_left_op_right fullShare.right)))

end Cert.AllGather

end
-- ==== Proof.Steps.lean ====
/-
# The all-gather: one rule per kind of step

The rules the kernel's steps are run by: a copy or send of a device's own block, the passing on of half a block, and a wait
on a transfer's semaphore. Each is the library's rule at this kernel's schedule.
-/
module

public import proofs.«01_k».proof.Proof.Schedule

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (K : Dev nD × SemLoc sig → ℕ)

abbrev 𝒱₀ : Variants := Variants.none

/-! ## The contents a transfer leaves -/

theorem block_lands (c n : Dev nD) {off : Fin 2 → ℕ} (inb) (ho : off = ![4096 * c.val, 0]) (fn : S16384x1024.Idx → Elt F .f32) :
    ((oB off inb).view.loc (n : Thread nD τ) ↦[(oB off inb).view.set]{fullShare}
        (oB off inb).view.write (Elt F) fn (xM.view.read (Elt F) (x m c)) Finset.univ : sProp 𝕄) ⊢ outPts n (blk c) (gath m) :=
  Entails.of_eq ((pointsTo_congr (write_block m c inb ho fn)).trans (by rw [oB_set inb c ho]; rfl))

theorem half_lands (n : Dev nD) {off : Fin 2 → ℕ} (inb) (S : Finset S16384x1024.Idx) (hS : (oH off inb).view.set = S) (fn : S16384x1024.Idx → Elt F .f32) :
    ((oH off inb).view.loc (n : Thread nD τ) ↦[(oH off inb).view.set]{fullShare}
        (oH off inb).view.write (Elt F) fn ((oH off inb).view.read (Elt F) (gath m)) Finset.univ : sProp 𝕄) ⊢ outPts n S (gath m) :=
  Entails.of_eq ((pointsTo_congr (write_half m inb fn)).trans (by rw [hS]; rfl))

theorem x_read (c : Dev nD) (sh : PosShare TreeShare) :
    xPts m c sh = (xM.view.loc (c : Thread nD τ) ↦[xM.view.set]{sh} x m c : sProp 𝕄) := by rw [xM_set]; rfl

theorem out_block (c n : Dev nD) {off : Fin 2 → ℕ} (inb) (ho : off = ![4096 * c.val, 0]) (f : S16384x1024.Idx → Elt F .f32) :
    outPts n (blk c) f = ((oB off inb).view.loc (n : Thread nD τ) ↦[(oB off inb).view.set]{fullShare} f : sProp 𝕄) := by rw [oB_set inb c ho]; rfl

theorem out_half (n : Dev nD) {off : Fin 2 → ℕ} (inb) (S : Finset S16384x1024.Idx) (hS : (oH off inb).view.set = S) (f : S16384x1024.Idx → Elt F .f32) :
    outPts n S f = ((oH off inb).view.loc (n : Thread nD τ) ↦[(oH off inb).view.set]{fullShare} f : sProp 𝕄) := by rw [hS]; rfl

/-! ## A device copies its own block into its own result -/

theorem wp_copy_block (c : Dev nD) {off : Fin 2 → ℕ} (inb) (ho : off = ![4096 * c.val, 0])
    {hsrc : xM.view.WordExact} {hdst : (oB off inb).view.WordExact} {hsem : DmaTarget.Typed (nD := nD) (τ := τ) (p := (c : Thread nD τ).2) (s := S4096x1024) (e := .f32) .hbm (dma 0) (.here (oB off inb))}
    {α : Type} {Q : α → sProp 𝕄} {k : PUnit → Prog (TpuEff nD τ sig (Elt F) Λ₀ .tc) α} (fn : S16384x1024.Idx → Elt F .f32) :
    iprop(records m K ∗ xPts m c fullShare.left ∗ outPts c (blk c) fn ∗ dutyTok ER (cell c (dma 0)) 0 false)
      ⊢ iprop((cred (tallyAt (cell c (dma 0)) () NB) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.here (oB off inb)) (dma 0) hsrc hdst hsem) k) Q) := by
  iintro ⟨#HR, Hx, Ho, Ht⟩
  iapply (Rounds.wp_copy_pointsTo 𝒱₀ ER (Rd m) (c : Thread nD τ) none (src := xM) (dst := oB off inb) (sem := dma 0) (κ := K (c, dma 0)) (r := 0) (d := false) (q := fullShare.left)
      (fs := x m c) (fd := fn)
      (by rw [duties_now]; exact Finset.mem_singleton_self _) () NB rfl rfl
      (by rw [← x_read]; exact sep_mono_left (block_lands m c c inb ho fn))) $$ [Hx Ho Ht]
  isplitr; · iapply (inv_at m K c (dma 0)); iexact HR
  isplitl [Hx]; · iapply (Entails.of_eq (x_read m c fullShare.left)); iexact Hx
  isplitl [Ho]; · iapply (Entails.of_eq (out_block c c inb ho fn)); iexact Ho
  isplitl [Ht]; · iexact Ht
  iapply (reached_at m K c (dma 0)); iexact HR

/-! ## A device sends its own block to `n` -/

theorem wp_send_block (c n : Dev nD) {n' : Dev nD} (hn : n' = n) (sh : PosShare TreeShare) (q₁ q₂ : Fin 9)
    (hp₁ : dmaPay m c q₁ = xPts m c sh) (hp₂ : dmaPay m n q₂ = outPts n (blk c) (gath m)) (ha₁ : amt q₁ = NB) (ha₂ : amt q₂ = NB)
    {off : Fin 2 → ℕ} (inb) (ho : off = ![4096 * c.val, 0])
    {hsc : ((oB off inb) : Memref sig (Dev.tc n' : Thread nD τ).2.kind .hbm S4096x1024 .f32).view.ref.isScScratch = false}
    {hsrc : xM.view.WordExact} {hdst : (oB off inb).view.WordExact}
    {hsem : DmaTarget.Typed .hbm (dma q₂) (.remote (Dev.tc n' : Thread nD τ) (oB off inb) (dma q₁) hsc)}
    {α : Type} {Q : α → sProp 𝕄} {k : PUnit → Prog (TpuEff nD τ sig (Elt F) Λ₀ .tc) α}
    (fn : S16384x1024.Idx → Elt F .f32) (O : CellTallies nD τ sig Unit) (W : Waits sig Unit) :
    iprop(records m K ∗ xPts m c sh ∗ outPts n (blk c) fn ∗ owes (c : Thread nD τ) (O + tallyAt (cell n (dma q₂)) () NB) W
        ∗ dutyTok ER (cell c (dma q₁)) 0 false ∗ dutyTok ER (cell n (dma q₂)) 0 false)
      ⊢ iprop(((cred (tallyAt (cell c (dma q₁)) () NB) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.remote (Dev.tc n' : Thread nD τ) (oB off inb) (dma q₁) hsc) (dma q₂) hsrc hdst hsem) k) Q) := by
  subst hn
  iintro ⟨#HR, Hx, Ho, HO, Ht₁, Ht₂⟩
  iapply (Rounds.wp_send_pointsTo 𝒱₀ ER (Rd m) (c : Thread nD τ) none (c' := (n' : Thread nD τ)) (src := xM) (dst := oB off inb) (sS := dma q₁) (sem := dma q₂) (κ₁ := K (c, dma q₁)) (κ₂ := K (n', dma q₂)) (r₁ := 0) (r₂ := 0)
      (d₁ := false) (d₂ := false) (q := sh) (fs := x m c) (fd := fn)
      (by rw [duties_now]; exact Finset.mem_singleton_self _) (by rw [duties_now]; exact Finset.mem_singleton_self _)
      () () NB rfl ha₁ ha₂ O rfl (W := W)
      (Entails.of_eq ((x_read m c sh).symm.trans hp₁.symm))
      ((block_lands m c n' inb ho fn).trans (Entails.of_eq hp₂.symm))) $$ [Hx Ho HO Ht₁ Ht₂]
  isplitr; · iapply (inv_at m K c (dma q₁)); iexact HR
  isplitr; · iapply (inv_at m K n' (dma q₂)); iexact HR
  isplitl [Hx]; · iapply (Entails.of_eq (x_read m c sh)); iexact Hx
  isplitl [Ho]; · iapply (Entails.of_eq (out_block c n' inb ho fn)); iexact Ho
  isplitl [HO]; · iexact HO
  isplitl [Ht₁]; · iexact Ht₁
  isplitr; · iapply (reached_at m K c (dma q₁)); iexact HR
  isplitl [Ht₂]; · iexact Ht₂
  iapply (reached_at m K n' (dma q₂)); iexact HR

/-! ## A device passes on, to `n`, half a block it holds gathered in its own result -/

theorem wp_send_half (c n : Dev nD) {n' : Dev nD} (hn : n' = n) (q₁ q₂ : Fin 9) (S : Finset S16384x1024.Idx)
    (hp₁ : dmaPay m c q₁ = outPts c S (gath m)) (hp₂ : dmaPay m n q₂ = outPts n S (gath m)) (ha₁ : amt q₁ = NH) (ha₂ : amt q₂ = NH)
    {off : Fin 2 → ℕ} (inb) (hS : (oH off inb).view.set = S)
    {hsc : ((oH off inb) : Memref sig (Dev.tc n' : Thread nD τ).2.kind .hbm S2048x1024 .f32).view.ref.isScScratch = false}
    {hsrc : (oH off inb).view.WordExact} {hdst : (oH off inb).view.WordExact}
    {hsem : DmaTarget.Typed .hbm (dma q₂) (.remote (Dev.tc n' : Thread nD τ) (oH off inb) (dma q₁) hsc)}
    {α : Type} {Q : α → sProp 𝕄} {k : PUnit → Prog (TpuEff nD τ sig (Elt F) Λ₀ .tc) α}
    (fn : S16384x1024.Idx → Elt F .f32) (O : CellTallies nD τ sig Unit) (W : Waits sig Unit) :
    iprop(records m K ∗ outPts c S (gath m) ∗ outPts n S fn ∗ owes (c : Thread nD τ) (O + tallyAt (cell n (dma q₂)) () NH) W
        ∗ dutyTok ER (cell c (dma q₁)) 0 false ∗ dutyTok ER (cell n (dma q₂)) 0 false)
      ⊢ iprop(((cred (tallyAt (cell c (dma q₁)) () NH) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (oH off inb) (.remote (Dev.tc n' : Thread nD τ) (oH off inb) (dma q₁) hsc) (dma q₂) hsrc hdst hsem) k) Q) := by
  subst hn
  iintro ⟨#HR, Hs, Ho, HO, Ht₁, Ht₂⟩
  iapply (Rounds.wp_send_pointsTo 𝒱₀ ER (Rd m) (c : Thread nD τ) none (c' := (n' : Thread nD τ)) (src := oH off inb) (dst := oH off inb) (sS := dma q₁) (sem := dma q₂) (κ₁ := K (c, dma q₁)) (κ₂ := K (n', dma q₂)) (r₁ := 0) (r₂ := 0)
      (d₁ := false) (d₂ := false) (q := fullShare) (fs := gath m) (fd := fn)
      (by rw [duties_now]; exact Finset.mem_singleton_self _) (by rw [duties_now]; exact Finset.mem_singleton_self _)
      () () NH rfl ha₁ ha₂ O rfl (W := W)
      (Entails.of_eq ((out_half c inb S hS (gath m)).symm.trans hp₁.symm))
      ((half_lands m n' inb S hS fn).trans (Entails.of_eq hp₂.symm))) $$ [Hs Ho HO Ht₁ Ht₂]
  isplitr; · iapply (inv_at m K c (dma q₁)); iexact HR
  isplitr; · iapply (inv_at m K n' (dma q₂)); iexact HR
  isplitl [Hs]; · iapply (Entails.of_eq (out_half c inb S hS (gath m))); iexact Hs
  isplitl [Ho]; · iapply (Entails.of_eq (out_half n' inb S hS fn)); iexact Ho
  isplitl [HO]; · iexact HO
  isplitl [Ht₁]; · iexact Ht₁
  isplitr; · iapply (reached_at m K c (dma q₁)); iexact HR
  isplitl [Ht₂]; · iexact Ht₂
  iapply (reached_at m K n' (dma q₂)); iexact HR

/-! ## A wait on a transfer's semaphore hands over what the transfer hands over -/

theorem wp_wait_dma (c : Dev nD) (q : Fin 9) {s : Shape} {src dst : Memref sig .tc .hbm s .f32} (hN : dst.view.dmaCredit = amt q)
    {hsrc : src.view.WordExact} {hdst : dst.view.WordExact} {α : Type} {Q : α → sProp 𝕄} {k : PUnit → Prog (TpuEff nD τ sig (Elt F) Λ₀ .tc) α}
    (O : CellTallies nD τ sig Unit) (hO : Above (lvS (dma q)) O) (W : Waits sig Unit) :
    iprop(records m K ∗ levAts L lv ∗ cred (tallyAt (cell c (dma q)) () (amt q)) ∗ owes (c : Thread nD τ) O W ∗ atPos ER (cell c (dma q)) 0 ∅ 0)
      ⊢ iprop(((owes (c : Thread nD τ) O (insert (dma q, ()) W) ∗ atPos ER (cell c (dma q)) (0 + 1) ∅ 0 ∗ dmaPay m c q) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (q : DmaSem sig) src dst hsrc hdst) k) Q) := by
  iintro ⟨#HR, #Hlev, Hc, HO, Hat⟩ Hk
  iapply (Rounds.wp_wait_rest_token 𝒱₀ ER (Rd m) (c : Thread nD τ) none (κ := K (c, dma q))
      (wpE_waitDma2_eq 𝒱₀ (c : Thread nD τ) none Set.univ) (Set.mem_univ _) () (O := O) (W := W) (R := 0) (m := 0) (T := ∅)
      (by rw [Nat.zero_add, hN]; exact (expect_dma m c q).symm)) $$ [Hc HO Hat]
  · isplitr; · iapply (inv_at m K c (dma q)); iexact HR
    isplitl [Hc]; · rw [hN]; iexact Hc
    isplitl [HO]; · iexact HO
    isplitr; · iapply (may_wait c (dma q) O hO); iexact Hlev
    iexact Hat
  iintro ⟨HO, Hat, -, Hpay⟩
  iapply Hk
  isplitl [HO]; · iexact HO
  isplitl [Hat]; · iexact Hat
  iapply (Entails.of_eq (all_dma m c q)); iexact Hpay

/-- A semaphore whose round is over is closed: its counter is the device's again, at zero. -/
theorem close (c : Dev nD) (sm : SemLoc sig) : iprop(records m K ∗ atPos ER (cell c sm) (0 + 1) ∅ 0) ⊢ |={Set.univ}=> semVal (cell c sm) 0 :=
  (sep_mono_left (inv_at m K c sm)).trans
    (Rounds.cell_close ER (Rd m) (Set.mem_univ (K (c, sm))) (fun h => h) (R := 0 + 1) (duties_later m (cell c sm)))

end Cert.AllGather

end
-- ==== Proof.Program.lean ====
/-
# The all-gather: the kernel as a list of steps

The kernel, once it has read which device it runs on, is seventeen steps, written out here with the devices, rows and semaphores they
name. That the compiled kernel is this list holds by computation.
-/
module

public import proofs.«01_k».proof.Proof.Schedule

@[expose] public section

noncomputable section

namespace Cert.AllGather

open Cert.KernelIdeal Cert.KernelIdeal.Gen

open Idealize.ShloMosaic
open Idealize.ShloMosaic.TcCoe
open Idealize.SL.Sem

variable {F : FTy → Type} [FloatOps F]

/-- The devices the kernel addresses, as it computes them. -/
abbrev d1 (c : Dev nD) : Dev nD := ⟨k0_dev1 c, k0_dev1_lt c⟩
abbrev d2 (c : Dev nD) : Dev nD := ⟨k0_dev2 c, k0_dev2_lt c⟩
abbrev d3 (c : Dev nD) : Dev nD := ⟨k0_dev3 c, k0_dev3_lt c⟩
abbrev d4 (c : Dev nD) : Dev nD := ⟨k0_dev4 c, k0_dev4_lt c⟩
abbrev d5 (c : Dev nD) : Dev nD := ⟨k0_dev5 c, k0_dev5_lt c⟩
abbrev d6 (c : Dev nD) : Dev nD := ⟨k0_dev6 c, k0_dev6_lt c⟩

/-- The rows of the result the kernel addresses, as it computes them: its own block's, those of its neighbours' blocks, the halves it
    passes on, and the halves of the block across. -/
abbrev ownB (c : Dev nD) := oB (k0_off1 c) (k0_off1_inb c)
abbrev prvB (c : Dev nD) := oB (k0_off2 c) (k0_off2_inb c)
abbrev nxtB (c : Dev nD) := oB (k0_off4 c) (k0_off4_inb c)
abbrev prvLo (c : Dev nD) := oH (k0_off3 c) (k0_off3_inb c)
abbrev nxtHi (c : Dev nD) := oH (k0_off5 c 1#32 2048#32) (k0_off5_inb c 0)
abbrev oppLo (c : Dev nD) := oH (k0_off5 c 2#32 0#32) (k0_off5_inb c 1)
abbrev oppHi (c : Dev nD) := oH (k0_off5 c 2#32 2048#32) (k0_off5_inb c 2)

/-- A program of the kernel's core. -/
abbrev Steps (F : FTy → Type) [FloatOps F] : Type 1 := Prog (TpuEff nD τ sig (Elt F) Λ₀ .tc) PUnit

/-- A signal of one unit to device `n`'s barrier, and the wait for two units of one's own. -/
abbrev signal (n : Dev nD) (k : Steps F) : Steps F := .op (.semSignal (n : Thread nD τ) barS ((1 : ℕ) : ℤ)) fun _ => k
abbrev await (k : Steps F) : Steps F := .op (.semWait barS ((2 : ℕ) : ℤ)) fun _ => k

/-- The sending of a device's own block to device `n`, and the passing on of half a block. -/
abbrev sendB {off : Fin 2 → ℕ} (inb : ∀ a, off a + S4096x1024.size a ≤ S16384x1024.size a) (n : Dev nD) (q₁ q₂ : Fin 9) (k : Steps F) : Steps F :=
  .op (.enqueueDma xM (.remote (Dev.tc n) (oB off inb) (dma q₁)) (dma q₂) (Memref.isWhole_whole main_arg0).wordExact (View.wordExact_bits rfl)
    ⟨⟨rfl, Or.inl rfl⟩, trivial⟩) fun _ => k
abbrev sendH {off : Fin 2 → ℕ} (inb : ∀ a, off a + S2048x1024.size a ≤ S16384x1024.size a) (n : Dev nD) (q₁ q₂ : Fin 9) (k : Steps F) : Steps F :=
  .op (.enqueueDma (oH off inb) (.remote (Dev.tc n) (oH off inb) (dma q₁)) (dma q₂) (View.wordExact_bits rfl) (View.wordExact_bits rfl)
    ⟨⟨rfl, Or.inl rfl⟩, trivial⟩) fun _ => k
/-- A device's copy of its own block. -/
abbrev copyB {off : Fin 2 → ℕ} (inb : ∀ a, off a + S4096x1024.size a ≤ S16384x1024.size a) (k : Steps F) : Steps F :=
  .op (.enqueueDma xM (.here (oB off inb)) (dma 0) (Memref.isWhole_whole main_arg0).wordExact (View.wordExact_bits rfl) ⟨Or.inl rfl, trivial⟩) fun _ => k

/-- The wait on a transfer's semaphore. -/
abbrev waitFor {s : Shape} (q : Fin 9) (src dst : Memref sig .tc .hbm s .f32) (hs : src.view.WordExact) (hd : dst.view.WordExact) (k : Steps F) : Steps F :=
  .op (.waitDma2 (q : DmaSem sig) src dst hs hd) fun _ => k

theorem xW : xM.view.WordExact := (Memref.isWhole_whole main_arg0).wordExact
theorem oBW {off : Fin 2 → ℕ} (inb) : (oB off inb).view.WordExact := View.wordExact_bits rfl
theorem oHW {off : Fin 2 → ℕ} (inb) : (oH off inb).view.WordExact := View.wordExact_bits rfl

/-- The steps of device `c`: the handshake; its own block sent to both neighbours; half of each block it receives passed on; the waits. -/
def steps (c : Dev nD) : Steps F :=
  signal (d1 c) <| signal (d2 c) <| await <|
  copyB (k0_off1_inb c) <| sendB (k0_off1_inb c) (d3 c) 1 5 <| sendB (k0_off1_inb c) (d4 c) 3 7 <|
  waitFor 5 xM (prvB c) xW (oBW _) <| sendH (k0_off3_inb c) (d5 c) 2 6 <|
  waitFor 7 xM (nxtB c) xW (oBW _) <| sendH (k0_off5_inb c 0) (d6 c) 4 8 <|
  waitFor 6 (oppLo c) (oppLo c) (oHW _) (oHW _) <| waitFor 8 (oppHi c) (oppHi c) (oHW _) (oHW _) <|
  waitFor 1 (ownB c) xM (oBW _) xW <| waitFor 3 (ownB c) xM (oBW _) xW <|
  waitFor 2 (prvLo c) (prvLo c) (oHW _) (oHW _) <| waitFor 4 (nxtHi c) (nxtHi c) (oHW _) (oHW _) <|
  waitFor 0 xM (ownB c) xW (oBW _) <| .ret ⟨⟩

set_option maxRecDepth 65536 in
/-- The kernel at its arguments is: read the device, then these steps. -/
theorem body_steps : cc0_body (F := F) (Memref.whole main_arg0) (Memref.isWhole_whole _) (Memref.whole main_v1) (Memref.isWhole_whole _)
    cc0_scratch0 cc0_scratch1 cc0_scratch2 = .op .deviceId steps := by
  rw [cc0_body_eq_skeleton]
  rfl

end Cert.AllGather

end
-- ==== Proof.Body.lean ====
/-
# The all-gather: a device's run of the kernel

The kernel on one device, run step by step from what the launch deals it: afterwards its result holds the gathered array,
its argument what it held, and its ten counters are at zero.
-/
module

public import proofs.«01_k».proof.Proof.Steps
public import proofs.«01_k».proof.Proof.Program

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
local notation "𝕄" => MT nD τ sig Unit (Elt F) ℕ UU ℕ

variable (m : (ℓ : Loc nD τ sig) → Buf (Elt F) ℓ)

/-! ## Lists over a device's semaphores -/

theorem over_sems (Φ : SemLoc sig → sProp 𝕄) : bigSep Finset.univ Φ
    = iprop(Φ bar ∗ Φ (dma 0) ∗ Φ (dma 1) ∗ Φ (dma 2) ∗ Φ (dma 3) ∗ Φ (dma 4) ∗ Φ (dma 5) ∗ Φ (dma 6) ∗ Φ (dma 7) ∗ Φ (dma 8)) := by
  rw [bigSep_univ_eq_bigSepL sems sems_univ sems_nodup]; rfl

/-- A duty token of a device's semaphore for the duty every semaphore has. -/
abbrev tok (c : Dev nD) (sm : SemLoc sig) : sProp 𝕄 := dutyTok ER (cell c sm) 0 false

theorem payToks_eq (c : Dev nD) : (payToks c : sProp 𝕄) = iprop(
    (tok (nxt c) bar ∗ tok c (dma 0) ∗ tok c (dma 1) ∗ tok c (dma 2) ∗ tok c (dma 3) ∗ tok c (dma 4)
      ∗ tok (nxt c) (dma 5) ∗ tok (nxt c) (dma 6) ∗ tok (prv c) (dma 7) ∗ tok (prv c) (dma 8))
    ∗ dutyTok ER (cell (prv c) bar) 0 true) := by
  unfold payToks; rw [over_sems]; rfl

/-! ## What each transfer hands the device at its other end -/

theorem pay5 (c : Dev nD) : (dmaPay m (nxt c) 5 : sProp 𝕄) = outPts (nxt c) (blk c) (gath m) := by
  show outPts (nxt c) (blk (prv (nxt c))) (gath m) = _; rw [prv_nxt]
theorem pay6 (c : Dev nD) : (dmaPay m (nxt c) 6 : sProp 𝕄) = outPts (nxt c) (lo (prv c)) (gath m) := by
  show outPts (nxt c) (lo (opp (nxt c))) (gath m) = _; rw [opp_nxt]
theorem pay7 (c : Dev nD) : (dmaPay m (prv c) 7 : sProp 𝕄) = outPts (prv c) (blk c) (gath m) := by
  show outPts (prv c) (blk (nxt (prv c))) (gath m) = _; rw [nxt_prv]
theorem pay8 (c : Dev nD) : (dmaPay m (prv c) 8 : sProp 𝕄) = outPts (prv c) (hi (nxt c)) (gath m) := by
  show outPts (prv c) (hi (opp (prv c))) (gath m) = _; rw [opp_prv]

/-- What device `c`'s own signals hand its neighbours: to `prv c` the rows of `prv c`'s block, and of the upper half of the block
    across, in `c`'s result; to `nxt c` the rows of `nxt c`'s block and of the lower half of the block across. -/
theorem barPay_prv (c : Dev nD) : (barPay (prv c) true : sProp 𝕄) = iprop((∃ f, outPts c (blk (prv c)) f) ∗ ∃ f, outPts c (lo (opp c)) f) := by
  unfold barPay; rw [nxt_prv, prv_prv]
theorem barPay_nxt (c : Dev nD) : (barPay (nxt c) false : sProp 𝕄) = iprop((∃ f, outPts c (blk (nxt c)) f) ∗ ∃ f, outPts c (hi (opp c)) f) := by
  unfold barPay; rw [prv_nxt, nxt_nxt]

/-! ## The whole result, gathered -/

theorem gathered (c : Dev nD) :
    iprop(outPts c (blk c) (gath m) ∗ (outPts c (lo (prv c)) (gath m) ∗ outPts c (hi (prv c)) (gath m))
      ∗ (outPts c (lo (nxt c)) (gath m) ∗ outPts c (hi (nxt c)) (gath m)) ∗ outPts c (lo (opp c)) (gath m) ∗ outPts c (hi (opp c)) (gath m))
      ⊢ (((c : Thread nD τ).loc main_v1) ↦{fullShare} gath m : sProp 𝕄) := by
  rw [out_cut]
  exact sep_mono_right (BI.sep_mono (blk_cut c (prv c) (gath m)).2 (BI.sep_mono (blk_cut c (nxt c) (gath m)).2 (blk_cut c (opp c) (gath m)).2))

/-! ## The run -/

/-- What device `c` runs the kernel from: the records, its positions, tokens and credit, its block of the argument, its result
    at some contents, and all it owes at launch. -/
def bodyPre (K : Dev nD × SemLoc sig → ℕ) (c : Dev nD) (W : Waits sig Unit) : sProp 𝕄 :=
  iprop(records m K ∗ posns c ∗ payToks c ∗ credits c ∗ levAts L lv ∗ (((c : Thread nD τ).loc main_arg0) ↦{fullShare} x m c)
    ∗ (∃ f : S16384x1024.Idx → Elt F .f32, ((c : Thread nD τ).loc main_v1) ↦{fullShare} f) ∗ owes (c : Thread nD τ) (owe0 c) W)

/-- What its run leaves: its counters at zero, the argument as it was, the result gathered, nothing owed. -/
def bodyPost (c : Dev nD) : sProp 𝕄 :=
  iprop((zeros c ∗ (((c : Thread nD τ).loc main_arg0) ↦{fullShare} x m c) ∗ (((c : Thread nD τ).loc main_v1) ↦{fullShare} gath m))
    ∗ ∃ W, owes (c : Thread nD τ) 0 W)

set_option maxHeartbeats 1000000 in
/-- The kernel on device `c`, from `bodyPre` to `bodyPost`. -/
theorem sound_body (K : Dev nD × SemLoc sig → ℕ) (c : Dev nD) (W : Waits sig Unit) (Kt : PUnit → sProp 𝕄) :
    iprop(bodyPre m K c W ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  rw [body_steps, wp_deviceId]
  show _ ⊢ wp frame (wpE (defs₀ (F := F)) 𝒱₀ (c : Thread nD τ) none) Set.univ (steps c) Kt
  unfold steps
  rw [show d1 c = prv c from dev1_eq c, show d2 c = nxt c from dev2_eq c]
  unfold bodyPre posns credits
  rw [payToks_eq, over_sems]
  iintro ⟨⟨#HR, ⟨PB, P0, P1, P2, P3, P4, P5, P6, P7, P8⟩, ⟨⟨TB, T0, T1, T2, T3, T4, T5, T6, T7, T8⟩, TB'⟩, ⟨CB, C5, C6, C7, C8⟩, #Hlev, Hx, ⟨%f, Hout⟩, HO⟩, Hk⟩
  -- the result cut by rows; the parts its neighbours write go out with the signals
  ihave H := (Entails.of_eq (out_cut c f)) $$ Hout
  icases H with ⟨Hc, Hp, Hn, Ho⟩
  ihave H := (blk_cut c (opp c) f).1 $$ Ho
  icases H with ⟨Hol, Hoh⟩
  unfold owe0
  iapply (Rounds.wp_signal 𝒱₀ ER (Rd m) (c : Thread nD τ) none (dst := (prv c : Thread nD τ)) (κ := K (prv c, bar))
      (d := true) (by rw [duties_now]; exact Finset.mem_univ _) (show units bar = _ from by decide) () (owe1 c) rfl) $$ [HO TB' Hp Hol]
  · isplitr; · iapply (inv_at m K (prv c) bar); iexact HR
    isplitl [HO]; · iexact HO
    isplitl [TB']; · iexact TB'
    isplitl [Hp Hol]
    · iapply (show _ ⊢ (Rd m).payload (cell (prv c) bar) 0 true from Entails.of_eq (barPay_prv c).symm)
      isplitl [Hp]; · iexists f; iexact Hp
      iexists f; iexact Hol
    · iapply (reached_at m K (prv c) bar); iexact HR
  iintro HO
  unfold owe1
  iapply (Rounds.wp_signal 𝒱₀ ER (Rd m) (c : Thread nD τ) none (dst := (nxt c : Thread nD τ)) (κ := K (nxt c, bar))
      (d := false) (by rw [duties_now]; exact Finset.mem_univ _) (show units bar = _ from by decide) () (owe2 c) rfl) $$ [HO TB Hn Hoh]
  · isplitr; · iapply (inv_at m K (nxt c) bar); iexact HR
    isplitl [HO]; · iexact HO
    isplitl [TB]; · iexact TB
    isplitl [Hn Hoh]
    · iapply (show _ ⊢ (Rd m).payload (cell (nxt c) bar) 0 false from Entails.of_eq (barPay_nxt c).symm)
      isplitl [Hn]; · iexists f; iexact Hn
      iexists f; iexact Hoh
    · iapply (reached_at m K (nxt c) bar); iexact HR
  iintro HO
  -- the wait for both neighbours: what `c` will write of their results
  iapply (Rounds.wp_wait_rest_token 𝒱₀ ER (Rd m) (c : Thread nD τ) none (κ := K (c, bar))
      (wpE_semWait_eq 𝒱₀ (c : Thread nD τ) none Set.univ) (Set.mem_univ _) () (O := owe2 c) (W := W) (R := 0) (m := 0) (T := ∅)
      (by rw [expect_bar])) $$ [CB HO PB]
  · isplitr; · iapply (inv_at m K c bar); iexact HR
    isplitl [CB]; · iexact CB
    isplitl [HO]; · iexact HO
    isplitr; · iapply (may_wait c bar (owe2 c) (above2 c (by decide))); iexact Hlev
    iexact PB
  iintro ⟨HO, PB, -, Hpay⟩
  ihave Hp := (Entails.of_eq (all_bar m c)) $$ Hpay
  unfold barPay
  icases Hp with ⟨⟨⟨%f1, HPc⟩, ⟨%f2, HPh⟩⟩, ⟨%f3, HNc⟩, ⟨%f4, HNl⟩⟩
  -- the device's own block: into its own result, and to both neighbours
  ihave H := (x_cut m c).1 $$ Hx
  icases H with ⟨Hx0, Hx1, Hx2⟩
  iapply (wp_copy_block m K c (k0_off1_inb c) (off1_eq c) f) $$ [Hx0 Hc T0]
  · isplitr; · iexact HR
    isplitl [Hx0]; · iexact Hx0
    isplitl [Hc] <;> iassumption
  iintro C0
  unfold owe2
  iapply (wp_send_block m K c (nxt c) (dev3_eq c) fullShare.right.left 1 5 rfl (pay5 m c) rfl rfl (k0_off1_inb c) (off1_eq c) f3 (owe3 c)) $$ [Hx1 HNc HO T1 T5]
  · isplitr; · iexact HR
    isplitl [Hx1]; · iexact Hx1
    isplitl [HNc]; · iexact HNc
    isplitl [HO]; · iexact HO
    isplitl [T1] <;> iassumption
  iintro ⟨C1, HO⟩
  unfold owe3
  iapply (wp_send_block m K c (prv c) (dev4_eq c) fullShare.right.right 3 7 rfl (pay7 m c) rfl rfl (k0_off1_inb c) (off1_eq c) f1 (owe4 c)) $$ [Hx2 HPc HO T3 T7]
  · isplitr; · iexact HR
    isplitl [Hx2]; · iexact Hx2
    isplitl [HPc]; · iexact HPc
    isplitl [HO]; · iexact HO
    isplitl [T3] <;> iassumption
  iintro ⟨C3, HO⟩
  -- `prv c`'s block has come: its upper half goes on to `nxt c`
  iapply (wp_wait_dma m K c 5 (src := xM) (dst := (prvB c)) rfl (owe4 c) (above4 c (by decide)) _) $$ [C5 HO P5]
  · isplitr; · iexact HR
    isplitr; · iexact Hlev
    isplitl [C5]; · iexact C5
    isplitl [HO] <;> iassumption
  iintro ⟨HO, P5, Hp⟩
  ihave H := (show (dmaPay m c 5 : sProp 𝕄) ⊢ _ from (blk_cut c (prv c) (gath m)).1) $$ Hp
  icases H with ⟨Hpl, Hph⟩
  unfold owe4
  iapply (wp_send_half m K c (nxt c) (dev5_eq c) 2 6 (lo (prv c)) rfl (pay6 m c) rfl rfl (k0_off3_inb c)
      (oH_set_lo (k0_off3_inb c) (prv c) (off3_eq c)) f4 (owe5 c)) $$ [Hpl HNl HO T2 T6]
  · isplitr; · iexact HR
    isplitl [Hpl]; · iexact Hpl
    isplitl [HNl]; · iexact HNl
    isplitl [HO]; · iexact HO
    isplitl [T2] <;> iassumption
  iintro ⟨C2, HO⟩
  -- `nxt c`'s block has come: its lower half goes on to `prv c`
  iapply (wp_wait_dma m K c 7 (src := xM) (dst := (nxtB c)) rfl (owe5 c) (above5 c (by decide)) _) $$ [C7 HO P7]
  · isplitr; · iexact HR
    isplitr; · iexact Hlev
    isplitl [C7]; · iexact C7
    isplitl [HO] <;> iassumption
  iintro ⟨HO, P7, Hn⟩
  ihave H := (show (dmaPay m c 7 : sProp 𝕄) ⊢ _ from (blk_cut c (nxt c) (gath m)).1) $$ Hn
  icases H with ⟨Hnl, Hnh⟩
  ihave HO := (Entails.of_eq (congrArg (fun O => (owes (c : Thread nD τ) O _ : sProp 𝕄)) (zero_add (owe5 c)).symm)) $$ HO
  unfold owe5
  iapply (wp_send_half m K c (prv c) (dev6_eq c) 4 8 (hi (nxt c)) rfl (pay8 m c) rfl rfl (k0_off5_inb c 0)
      (oH_set_hi (k0_off5_inb c 0) (nxt c) (off5_eq_nxt c)) f2 0) $$ [Hnh HPh HO T4 T8]
  · isplitr; · iexact HR
    isplitl [Hnh]; · iexact Hnh
    isplitl [HPh]; · iexact HPh
    isplitl [HO]; · iexact HO
    isplitl [T4] <;> iassumption
  iintro ⟨C4, HO⟩
  -- the two halves of the block across
  iapply (wp_wait_dma m K c 6 (src := (oppLo c)) (dst := (oppLo c)) rfl 0 (above_zero _) _) $$ [C6 HO P6]
  · isplitr; · iexact HR
    isplitr; · iexact Hlev
    isplitl [C6]; · iexact C6
    isplitl [HO] <;> iassumption
  iintro ⟨HO, P6, Hol⟩
  iapply (wp_wait_dma m K c 8 (src := (oppHi c)) (dst := (oppHi c)) rfl 0 (above_zero _) _) $$ [C8 HO P8]
  · isplitr; · iexact HR
    isplitr; · iexact Hlev
    isplitl [C8]; · iexact C8
    isplitl [HO] <;> iassumption
  iintro ⟨HO, P8, Hoh⟩
  -- the sends and the copy are complete: what they read comes back
  iapply (wp_wait_dma m K c 1 (src := (ownB c)) (dst := xM) rfl 0 (above_zero _) _) $$ [C1 HO P1]
  · isplitr; · iexact HR
    isplitr; · iexact Hlev
    isplitl [C1]; · iexact C1
    isplitl [HO] <;> iassumption
  iintro ⟨HO, P1, Hx1⟩
  iapply (wp_wait_dma m K c 3 (src := (ownB c)) (dst := xM) rfl 0 (above_zero _) _) $$ [C3 HO P3]
  · isplitr; · iexact HR
    isplitr; · iexact Hlev
    isplitl [C3]; · iexact C3
    isplitl [HO] <;> iassumption
  iintro ⟨HO, P3, Hx2⟩
  iapply (wp_wait_dma m K c 2 (src := (prvLo c)) (dst := (prvLo c)) rfl 0 (above_zero _) _) $$ [C2 HO P2]
  · isplitr; · iexact HR
    isplitr; · iexact Hlev
    isplitl [C2]; · iexact C2
    isplitl [HO] <;> iassumption
  iintro ⟨HO, P2, Hpl⟩
  iapply (wp_wait_dma m K c 4 (src := (nxtHi c)) (dst := (nxtHi c)) rfl 0 (above_zero _) _) $$ [C4 HO P4]
  · isplitr; · iexact HR
    isplitr; · iexact Hlev
    isplitl [C4]; · iexact C4
    isplitl [HO] <;> iassumption
  iintro ⟨HO, P4, Hnh⟩
  iapply (wp_wait_dma m K c 0 (src := xM) (dst := (ownB c)) rfl 0 (above_zero _) _) $$ [C0 HO P0]
  · isplitr; · iexact HR
    isplitr; · iexact Hlev
    isplitl [C0]; · iexact C0
    isplitl [HO] <;> iassumption
  iintro ⟨HO, P0, Hc⟩
  unfold dmaPay
  icases Hc with ⟨Hc, Hx0⟩
  -- every semaphore is closed
  imod (close m K c bar) $$ [PB] with ZB; · (isplitr; · iexact HR); iexact PB
  imod (close m K c (dma 0)) $$ [P0] with Z0; · (isplitr; · iexact HR); iexact P0
  imod (close m K c (dma 1)) $$ [P1] with Z1; · (isplitr; · iexact HR); iexact P1
  imod (close m K c (dma 2)) $$ [P2] with Z2; · (isplitr; · iexact HR); iexact P2
  imod (close m K c (dma 3)) $$ [P3] with Z3; · (isplitr; · iexact HR); iexact P3
  imod (close m K c (dma 4)) $$ [P4] with Z4; · (isplitr; · iexact HR); iexact P4
  imod (close m K c (dma 5)) $$ [P5] with Z5; · (isplitr; · iexact HR); iexact P5
  imod (close m K c (dma 6)) $$ [P6] with Z6; · (isplitr; · iexact HR); iexact P6
  imod (close m K c (dma 7)) $$ [P7] with Z7; · (isplitr; · iexact HR); iexact P7
  imod (close m K c (dma 8)) $$ [P8] with Z8; · (isplitr; · iexact HR); iexact P8
  rw [wp_ret]; imodintro
  iapply Hk
  unfold bodyPost zeros
  rw [over_sems]
  isplitr [HO]
  · isplitl [ZB Z0 Z1 Z2 Z3 Z4 Z5 Z6 Z7 Z8]
    · isplitl [ZB]; · iexact ZB
      isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7] <;> iassumption
    isplitl [Hx0 Hx1 Hx2]
    · iapply (x_cut m c).2
      isplitl [Hx0]; · iexact Hx0
      isplitl [Hx1] <;> iassumption
    iapply (gathered m c)
    isplitl [Hc]; · iexact Hc
    isplitl [Hpl Hph]; · (isplitl [Hpl] <;> iassumption)
    isplitl [Hnl Hnh]; · (isplitl [Hnl] <;> iassumption)
    isplitl [Hol] <;> iassumption
  · iexists _; iexact HO

end Cert.AllGather

end
-- ==== Proof.Launch.lean ====
/-
# The all-gather: from the launch to each device's run

What the launch has in hand — every counter at zero, the ghost state of every semaphore's round, all that is owed — becomes what
every device's run starts from: an invariant for each of the forty semaphores, each device's positions, the tokens of the
duties it pays (each moved from the device whose semaphore it is to the device that pays it), and its credit.
-/
module

public import proofs.«01_k».proof.Proof.Body

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The proof data of the one call, and its body -/

/-- A device's argument and result, at given contents of the result. -/
def arrays (c : Dev nD) (f : S16384x1024.Idx → Elt F .f32) : sProp 𝕄 :=
  iprop((((c : Thread nD τ).loc main_arg0) ↦{fullShare} x m c) ∗ (((c : Thread nD τ).loc main_v1) ↦{fullShare} f))

/-- Before the run, and after it. -/
def before (c : Dev nD) : sProp 𝕄 := iprop(ghost m c ∗ credits c ∗ levAts L lv ∗ ∃ f, arrays m c f)
def after (c : Dev nD) : sProp 𝕄 := iprop(zeros c ∗ arrays m c (gath m))

def dats (_ : Fin 1) (c : Dev nD) : Dat τ (Elt F) Unit ℕ UU ℕ cfg0 c where
  A w := w.elim0
  after w := w.elim0
  Φ t := match t with
    | ⟨0, _⟩ => before m c
    | ⟨_ + 1, _⟩ => after m c
  q _ := fullShare
  owed t := match t with
    | ⟨0, _⟩ => owe0 c
    | ⟨_ + 1, _⟩ => 0

theorem no_windows (Φ : Fin cfg0.W → sProp 𝕄) : bigSep Finset.univ Φ = (BI.emp : sProp 𝕄) := bigSep_univ_eq_bigSepL [] (by decide) (by decide) Φ

/-- What the launch theorem asks of the body on each core. -/
theorem body_obligation (c : Dev nD) : BodyObligation (dats (F := F) m 0 c) (defs₀ (F := F)) 𝒱₀ () Set.univ := fun t => by
  rw [show t = t0_0 from fin_N0 t, no_windows, no_windows]
  show iprop(before m c ∗ (dats m 0 c).owesAt () (t0_0 : Fin cfg0.N).castSucc ∗ BI.emp) ⊢ wp frame (wpE (defs₀ (F := F)) 𝒱₀ c none) Set.univ
    (cc0_body (Memref.whole main_arg0) (Memref.isWhole_whole _) (Memref.whole main_v1) (Memref.isWhole_whole _) cc0_scratch0 cc0_scratch1 cc0_scratch2)
    (fun _ => iprop(after m c ∗ (dats m 0 c).owesAt () (t0_0 : Fin cfg0.N).succ ∗ BI.emp))
  unfold before ghost arrays Dat.owesAt Pipeline.owesWithin
  rw [show (dats m 0 c).owed (t0_0 : Fin cfg0.N).castSucc = owe0 c from rfl, show (dats m 0 c).owed (t0_0 : Fin cfg0.N).succ = 0 from rfl]
  iintro ⟨⟨⟨%K, HR, HP, HT⟩, HC, HL, ⟨%f, Hx, Ho⟩⟩, ⟨%W, %hW, HO⟩, -⟩
  iapply (sound_body m K c W _)
  unfold bodyPre bodyPost after arrays
  isplitr []
  · isplitl [HR]; · iexact HR
    isplitl [HP]; · iexact HP
    isplitl [HT]; · iexact HT
    isplitl [HC]; · iexact HC
    isplitl [HL]; · iexact HL
    isplitl [Hx]; · iexact Hx
    isplitl [Ho]; · iexists f; iexact Ho
    iexact HO
  · iintro ⟨H, ⟨%W', HO⟩⟩
    isplitl [H]; · iexact H
    isplitl [HO]
    · iexists W'
      isplitr; · ipureintro; exact fun _ _ => Or.inl trivial
      iexact HO
    · iempintro

/-! ## The semaphores' ghost state, as the launch mints it -/

/-- The kernel's own semaphores: its nine transfers'. -/
abbrev osem : Fin 9 → SemLoc sig := dma
theorem ownSemFacts : Pipeline.OwnSemFacts cfg0.spec osem := by decide

def cells : Finset (GSem nD τ sig) :=
  Finset.univ.map ⟨fun ck : Dev nD × SemLoc sig => cell ck.1 ck.2, fun a b h =>
    Prod.ext (congrArg (fun g : GSem nD τ sig => g.1.1) h) (congrArg (fun g : GSem nD τ sig => g.2) h)⟩

/-- The tokens: every semaphore's one duty, and a barrier's second. -/
abbrev tokOf : Dev nD × Option (SemLoc sig) → GSem nD τ sig × ℕ × Bool
  | (c, some sm) => (cell c sm, 0, false)
  | (c, none) => (cell c bar, 0, true)
theorem tokOf_injective : Function.Injective tokOf := by
  rintro ⟨c, j⟩ ⟨c', j'⟩ h
  cases j <;> cases j'
  · rw [show c = c' from congrArg (fun y : GSem nD τ sig × ℕ × Bool => y.1.1.1) h]
  · exact absurd (congrArg (fun y : GSem nD τ sig × ℕ × Bool => y.2.2) h) (show ¬ (true = false) from by decide)
  · exact absurd (congrArg (fun y : GSem nD τ sig × ℕ × Bool => y.2.2) h) (show ¬ (false = true) from by decide)
  · exact Prod.ext (congrArg (fun y : GSem nD τ sig × ℕ × Bool => y.1.1.1) h)
      (congrArg some (congrArg (fun y : GSem nD τ sig × ℕ × Bool => y.1.2) h))
def tokens : Finset (GSem nD τ sig × ℕ × Bool) := Finset.univ.map ⟨tokOf, tokOf_injective⟩

def u₀ : UU := (initOf (Pipeline.cells cfgs cellOf_inj) (Pipeline.launchToks cfgs cellOf_inj), initOf cells tokens)

/-- What the launch mints for device `c`'s semaphores. -/
def minted (c : Dev nD) : sProp 𝕄 :=
  iprop((bigSep Finset.univ fun sm : SemLoc sig => roundState ER (Rd m) (cell c sm) 0) ∗ posns c
    ∗ (bigSep Finset.univ fun sm : SemLoc sig => reached ER (cell c sm) 0) ∗ toks c)

theorem over_cells (Φ : GSem nD τ sig → sProp 𝕄) : bigSep cells Φ = bigSep Finset.univ fun c : Dev nD => bigSep Finset.univ fun sm : SemLoc sig => Φ (cell c sm) := by
  unfold cells; rw [bigSep_map, bigSep_univ_prod]; rfl

theorem over_tokens : bigSep tokens (fun y => (dutyTok ER y.1 y.2.1 y.2.2 : sProp 𝕄)) = bigSep Finset.univ fun c : Dev nD => toks c := by
  unfold tokens; rw [bigSep_map, bigSep_univ_prod]
  refine bigSep_congr fun c _ => ?_
  unfold toks
  rw [bigSep_univ_at _ (none : Option (SemLoc sig)), show (Finset.univ : Finset (Option (SemLoc sig))).erase none = Finset.univ.map Function.Embedding.some from by decide,
    bigSep_map]
  exact BI.Entails.antisymm BI.sep_comm BI.sep_comm

theorem mint : BI.own (ER (initOf cells tokens)) ⊢ (|==> bigSep Finset.univ (minted m) : sProp 𝕄) := by
  iintro HX
  imod (Rounds.fund ER (Rd m) cells tokens) $$ HX with ⟨Hst, Hr, Hat, Htok⟩
  imodintro
  ihave Hst := (Entails.of_eq (over_cells fun g => roundState ER (Rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_tokens) $$ Htok
  unfold minted posns; simp only [bigSep_sep']
  isplitl [Hst]; · iexact Hst
  isplitl [Hat]; · iexact Hat
  isplitl [Hr] <;> iassumption

/-! ## Every counter at zero -/

/-- The kernel's nine semaphores and the runtime's one are a device's ten. -/
theorem zeros_eq (c : Dev nD) : (zeros c : sProp 𝕄)
    = iprop(semVal (cell c bar) 0 ∗ Pipeline.ownSems0 (Ix := Unit) (Name := ℕ) (U := UU) (Lvl := ℕ) (Val := Elt F) (τ := τ) osem c) := by
  unfold zeros
  rw [over_sems, Pipeline.ownSems0_eq_of_list c osem [0, 1, 2, 3, 4, 5, 6, 7, 8] (by decide) (by decide)]; rfl
theorem unscoped_eq (c : Dev nD) : (unscopedSems0 c : sProp 𝕄) = semVal (cell c bar) 0 := by
  unfold unscopedSems0; rw [bigSep_eq_bigSepL_of_eq [bar] (by decide) (by decide)]; rfl

/-! ## From what is minted to what each device starts from -/

/-- Who pays, over every semaphore of every device at once. -/
def payeeAll : Dev nD × SemLoc sig ≃ Dev nD × SemLoc sig where
  toFun ck := (payee ck.2 ck.1, ck.2)
  invFun ck := ((payee ck.2).symm ck.1, ck.2)
  left_inv _ := Prod.ext (Equiv.symm_apply_apply _ _) rfl
  right_inv _ := Prod.ext (Equiv.apply_symm_apply _ _) rfl

/-- The tokens moved: each duty's token to the device that pays it. -/
theorem deal : (bigSep Finset.univ fun c : Dev nD => (toks c : sProp 𝕄)) ⊢ bigSep Finset.univ fun c : Dev nD => payToks c := by
  unfold toks payToks
  rw [bigSep_sep', bigSep_sep', ← bigSep_univ_prod (fun ck : Dev nD × SemLoc sig => (dutyTok ER (cell ck.1 ck.2) 0 false : sProp 𝕄)),
    ← bigSep_univ_prod (fun ck : Dev nD × SemLoc sig => (dutyTok ER (cell (payee ck.2 ck.1) ck.2) 0 false : sProp 𝕄)),
    bigSep_univ_equiv payeeAll (fun ck : Dev nD × SemLoc sig => (dutyTok ER (cell ck.1 ck.2) 0 false : sProp 𝕄)),
    bigSep_univ_equiv turn.symm (fun c : Dev nD => (dutyTok ER (cell c bar) 0 true : sProp 𝕄))]
  exact BI.Entails.refl _

/-- One device's invariants, allocated. -/
theorem core_alloc (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun sm : SemLoc sig => iprop(∃ κ : ℕ, cellInv ER (Rd m) κ (cell c sm)))
          ∗ posns c ∗ (bigSep Finset.univ fun sm : SemLoc sig => reached ER (cell c sm) 0) ∗ toks c) := by
  unfold minted
  iintro ⟨Hos, Hus, Hst, Hrest⟩
  imod (show iprop(zeros c ∗ bigSep Finset.univ fun sm : SemLoc sig => roundState ER (Rd m) (cell c sm) 0)
      ⊢ (|={Set.univ}=> bigSep Finset.univ fun sm : SemLoc sig => iprop(∃ κ : ℕ, cellInv ER (Rd m) κ (cell c sm)) : sProp 𝕄) from by
        unfold zeros
        rw [← bigSep_sep']
        exact (bigSep_mono fun sm _ => (Rounds.body_intro ER (Rd m) (cell c sm)).trans inv_alloc).trans (bigSep_fupd _ _)) $$ [Hos Hus Hst] with Hinv
  · isplitr [Hst]
    · rw [zeros_eq, ← unscoped_eq]
      isplitl [Hus] <;> iassumption
    · iexact Hst
  imodintro
  isplitl [Hinv] <;> iassumption

theorem ghost_intro (K : Dev nD × SemLoc sig → ℕ) (c : Dev nD) : iprop(records m K ∗ posns c ∗ payToks c) ⊢ ghost m c := by
  unfold ghost
  iintro ⟨HR, HP, HT⟩
  iexists K
  isplitl [HR]; · iexact HR
  isplitl [HP] <;> iassumption

/-- All the devices' invariants make the records that every device holds. -/
theorem regroup :
    (bigSep Finset.univ fun c : Dev nD => iprop((bigSep Finset.univ fun sm : SemLoc sig => iprop(∃ κ : ℕ, cellInv ER (Rd m) κ (cell c sm)))
          ∗ posns c ∗ (bigSep Finset.univ fun sm : SemLoc sig => reached ER (cell c sm) 0) ∗ toks c) : sProp 𝕄)
      ⊢ bigSep Finset.univ (ghost m) := by
  rw [bigSep_sep', bigSep_sep', bigSep_sep', ← bigSep_univ_prod (fun ck : Dev nD × SemLoc sig => iprop(∃ κ : ℕ, cellInv ER (Rd m) κ (cell ck.1 ck.2))),
    ← bigSep_univ_prod (fun ck : Dev nD × SemLoc sig => (reached ER (cell ck.1 ck.2) 0 : sProp 𝕄))]
  iintro ⟨HI, Hat, HR, Htok⟩
  ihave HK := (BI.bigSep_exists_pi Finset.univ (fun (ck : Dev nD × SemLoc sig) (κ : ℕ) => (cellInv ER (Rd m) κ (cell ck.1 ck.2) : sProp 𝕄))) $$ HI
  icases HK with ⟨%K, HI⟩
  ihave Htok := deal $$ Htok
  iapply (show iprop(records m K ∗ (bigSep Finset.univ fun c : Dev nD => posns c) ∗ bigSep Finset.univ fun c : Dev nD => payToks c)
      ⊢ (bigSep Finset.univ (ghost m) : sProp 𝕄) from
    (sep_mono_left (BI.bigSep_of_persistent Finset.univ (records m K))).trans (by
      rw [← bigSep_sep', ← bigSep_sep']
      exact bigSep_mono fun c _ => ghost_intro m K c))
  isplitl [HI HR]
  · unfold records; isplitl [HI] <;> iassumption
  isplitl [Hat] <;> iassumption

/-- The launch's global step. -/
theorem start_all : (bigSep Finset.univ fun c =>
      iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (ghost m) :=
  ((bigSep_mono fun c _ => core_alloc m c).trans (bigSep_fupd _ _)).trans (BI.fupd_mono (regroup m))

/-! ## The credit -/

/-- What all devices together owe a semaphore, when each owes `n` to the semaphore `sm'` of one device, a different one each. -/
theorem owed_all (e : Dev nD ≃ Dev nD) (sm' sm : SemLoc sig) (n : ℕ) (c : Dev nD) :
    ∑ d, (tallyAt (cell (e d) sm') () n : CellTallies nD τ sig Unit) (cell c sm) () = if sm = sm' then n else 0 := by
  rw [Finset.sum_eq_single (e.symm c)]
  · rw [tallyAt_apply, Equiv.apply_symm_apply]
    by_cases h : sm = sm'
    · rw [if_pos h, h, if_pos ⟨rfl, rfl⟩]
    · rw [if_neg h, if_neg fun h' => h (congrArg Prod.snd h'.1)]
  · intro d _ hd
    rw [tallyAt_apply, if_neg fun h' => hd ?_]
    rw [Equiv.eq_symm_apply]; exact (congrArg (fun g : GSem nD τ sig => g.1.1) h'.1).symm
  · intro h; exact absurd (Finset.mem_univ _) h

/-- What is owed at launch to semaphore `sm` of a device. -/
theorem owed_total (c : Dev nD) (sm : SemLoc sig) : ∑ d, owe0 d (cell c sm) () = (((((if sm = dma 8 then NH else 0) + (if sm = dma 6 then NH else 0))
    + (if sm = dma 7 then NB else 0)) + (if sm = dma 5 then NB else 0)) + (if sm = bar then 1 else 0)) + (if sm = bar then 1 else 0) := by
  unfold owe0 owe1 owe2 owe3 owe4 owe5
  simp only [Pi.add_apply, Finsupp.add_apply, Finset.sum_add_distrib]
  exact congrArg₂ _ (congrArg₂ _ (congrArg₂ _ (congrArg₂ _ (congrArg₂ _ (owed_all turn.symm _ sm _ c) (owed_all turn _ sm _ c))
    (owed_all turn.symm _ sm _ c)) (owed_all turn _ sm _ c)) (owed_all turn _ sm _ c)) (owed_all turn.symm _ sm _ c)

theorem launch_tally (c : Dev nD) (sm : SemLoc sig) (n : ℕ) (h : ∑ d, owe0 d (cell c sm) () = n) :
    tallyOn (cell c sm) (launchCredit (Pipeline.owing owe0) 0 (cell c sm)) = (tallyAt (cell c sm) () n : CellTallies nD τ sig Unit) := by
  unfold tallyAt; refine congrArg _ (Finsupp.ext fun u => ?_); cases u
  rw [Pipeline.launchCredit_owing, Finsupp.single_eq_same, h]

theorem creds (c : Dev nD) : (Pipeline.launchCred owe0 c : sProp 𝕄) ⊢ credits c := by
  unfold Pipeline.launchCred credits
  rw [over_sems, launch_tally c bar 2 (owed_total c bar), launch_tally c (dma 5) NB (owed_total c (dma 5)), launch_tally c (dma 6) NH (owed_total c (dma 6)),
    launch_tally c (dma 7) NB (owed_total c (dma 7)), launch_tally c (dma 8) NH (owed_total c (dma 8))]
  iintro ⟨HB, -, -, -, -, -, H5, H6, H7, H8⟩
  isplitl [HB]; · iexact HB
  isplitl [H5]; · iexact H5
  isplitl [H6]; · iexact H6
  isplitl [H7] <;> iassumption

end Cert.AllGather

end
-- ==== Proof.Run.lean ====
/-
# The all-gather's run

From any memory whose counters are all zero, every weakly fair run of the four devices ends; at the end every device's result
array holds the four arguments one below the other, its argument is as it was, and every counter is at zero.
-/
module

public import proofs.«01_k».proof.Proof.Launch
public import Idealize.ShloMosaic.Lib.Quiescent

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- What the launch deals a device is what its run starts from. -/
theorem start (c : Dev nD) :
    iprop(Pipeline.unscopedRestP Pipeline.Prefetch.none cfg0.spec c (fun b => m ((c : Thread nD τ).loc b)) ∗ levAts L lv
        ∗ Pipeline.launchCred owe0 c ∗ prngReg c (ρ c) ∗ ghost m c)
      ⊢ |={Set.univ}=> iprop(before m c ∗ emp) := by
  rw [Pipeline.unscopedRestP_none, unscopedRest0_eq]
  iintro ⟨⟨Hx, Ho⟩, Hlev, Hcr, -, HG⟩
  ihave Hc := (creds (F := F) c) $$ Hcr
  imodintro
  unfold before arrays
  isplitl
  · isplitl [HG]; · iexact HG
    isplitl [Hc]; · iexact Hc
    isplitl [Hlev]; · iexact Hlev
    iexists _
    isplitl [Hx]
    · iexact Hx
    · iexact Ho
  · iempintro

theorem enter (c : Dev nD) :
    iprop(before m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  iintro ⟨H, -, -⟩
  iexact H

theorem leave (c : Dev nD) :
    (dats m 0 c).Φ (Fin.last cfg0.N)
      ⊢ iprop((semVal (cell c bar) 0 ∗ arrays m c (gath m)) ∗ Pipeline.ownSems0 osem c ∗ Pipeline.scopedRest cfg0.spec c) := by
  rw [show (dats m 0 c).Φ (Fin.last cfg0.N) = after m c from rfl, scopedRest0_eq]
  unfold after
  rw [zeros_eq]
  iintro ⟨⟨Hb, Hs⟩, HA⟩
  isplitl [Hb HA]
  · isplitl [Hb] <;> iassumption
  isplitl [Hs]; · iexact Hs
  iempintro

/-- What is read off a device's final state. -/
def Ends (c : Dev nD) (s : MemSt nD τ sig (Elt F)) : Prop :=
  s.sem (cell c bar) = 0 ∧ s.mem ((c : Thread nD τ).loc main_arg0) = m ((c : Thread nD τ).loc main_arg0) ∧ s.mem ((c : Thread nD τ).loc main_v1) = gath m

set_option maxRecDepth 8000 in
/-- Every weakly fair run from zero counters ends, with every result array the four arguments one below the other, every argument
    unchanged and every counter at zero. -/
theorem run_main : θ_run defs (onTc (τ := τ) (main (F := F))) ⟨m, fun _ => 0, ρ⟩ (fun r =>
    (∀ c : Dev nD, r.2.mem ((c : Thread nD τ).loc main_v1) = gath m ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owe0) (howed₀ := fun _ => rfl) (howedN := fun _ => rfl)
    (L := L) (lv := lv) (hL := L_of_ne) (hwaits := fun c => Pipeline.cellsWaits_intro cfgs (dats m) () 0 c fun w => w.elim0)
    (G := minted m) (G' := ghost m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := start_all m)
    (hA := fun _ w => w.elim0) (hpf := fun _ k => k.elim0)
    (X := before m) (Y := fun c => iprop(semVal (cell c bar) 0 ∗ arrays m c (gath m))) (Z := fun _ => iprop(emp))
    (hX := start m ρ) (hin := enter m) (hout := leave m)
    (QY := Ends m)
    (hY := fun c s' => by
      unfold arrays
      iintro ⟨⟨Hb, Hx, Ho⟩, -, HSI⟩
      icombine HSI Hb gives %hb
      icombine HSI Hx gives %hx
      icombine HSI Ho gives %ho
      imodintro
      isplitr [HSI]
      · ipureintro
        exact ⟨hb, Buf.eq_of_forall_mem_univ hx, Buf.eq_of_forall_mem_univ ho⟩
      · iexact HSI)
    (hQ := fun _ h hs => ⟨fun c => ⟨(h c).2.2.2.2, (h c).2.2.2.1⟩, sem_eq_zero hs fun c sm hsm => by
      rw [show sm = bar from (by decide : ∀ sm : SemLoc sig, sm.isScoped .tc = false → sm = bar) sm hsm]
      exact (h c).2.2.1⟩)

end Cert.AllGather

end
-- ==== Proof.Value.lean ====
/-
# The gathered array is the whole array; the reference's run

Where each device's argument is its block of one whole array, the four blocks one below another are that array. And the
reference, one device handing back its argument, ends at once with the memory as it was.
-/
module

public import proofs.«01_k».proof.Proof.Regions
public import proofs.«01_k».proof.Proof.Gen.ReferenceIdeal
public import Idealize.ShloMosaic.Lib.Layout
public import Idealize.ShloMosaic.Lib.Quiescent
public import Idealize.ShloMosaic.Lib.StableHlo.Run

@[expose] public section

noncomputable section

namespace Cert.AllGather

open Idealize.ShloMosaic Idealize.SL.Sem

variable {F : FTy → Type} [FloatOps F]

/-- Blocks of `w` gathered make `w`. -/
theorem gath_blocks (m : (ℓ : Loc KernelIdeal.nD KernelIdeal.τ KernelIdeal.sig) → Buf (Elt F) ℓ) (w : (⟨2, ![16384, 1024]⟩ : Shape).Idx → Elt F .f32)
    (hw : ∀ c : Dev KernelIdeal.nD, x m c = Layout.block ⟨2, ![4096, 1024]⟩ ⟨2, ![16384, 1024]⟩ 0 4 c w) : gath m = w := by
  funext i
  unfold gath
  rw [hw, Layout.block_apply]
  refine congrArg w (funext (Fin.forall_fin_two.mpr ⟨Fin.ext ?_, Fin.ext ?_⟩))
  · rw [(Layout.idx_rows_val _ _ _).1]
    show (i 0).val / 4096 * 4096 + (i 0).val % 4096 = (i 0).val
    omega
  · exact (Layout.idx_rows_val _ _ _).2

/-- The reference runs, its argument (which is its result) is unchanged, and it has no counter that could be other than zero. -/
theorem run_reference (m : (ℓ : Loc ReferenceIdeal.nD ReferenceIdeal.τ ReferenceIdeal.sig) → Buf (Elt F) ℓ) (ρ : Dev ReferenceIdeal.nD → PrngReg) :
    θ_run ReferenceIdeal.defs (onTc (τ := ReferenceIdeal.τ) (ReferenceIdeal.main (F := F))) ⟨m, fun _ => 0, ρ⟩ fun r =>
      (∀ c : Dev ReferenceIdeal.nD, r.2.mem ((c.tc : Thread ReferenceIdeal.nD ReferenceIdeal.τ).loc ReferenceIdeal.main_arg0)
        = m ((c.tc : Thread ReferenceIdeal.nD ReferenceIdeal.τ).loc ReferenceIdeal.main_arg0)) ∧ r.2.sem = fun _ => 0 :=
  (θ_run ReferenceIdeal.defs _ _).mono (fun r h => ⟨fun c => h c ReferenceIdeal.main_arg0, sem_eq_zero_of_no_sems rfl r.2⟩)
    (StableHlo.run_seq (by decide) (by decide) ReferenceIdeal.defs ReferenceIdeal.main (fun _ => []) (fun _ => rfl) (fun _ => trivial) m ρ)

end Cert.AllGather

end
-- ==== Proof.lean ====
/-
# The certificate

Every claim is a weakening of two runs: the kernel's (Proof/Run.lean), proved once for any float values, and the reference's
(Proof/Value.lean). The value claim joins them: four blocks one below another are the whole array.

Proof/Regions.lean has the ring and the row ranges, Proof/Schedule.lean what each semaphore's payments hand over,
Proof/Steps.lean one rule a kind of operation, Proof/Program.lean the kernel as a list of operations, Proof/Body.lean its run
on one device, Proof/Launch.lean what the launch deals each device.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Run
public import proofs.«01_k».proof.Proof.Value

@[expose] public section

noncomputable section

namespace Cert.Proof

open Idealize.ShloMosaic Idealize.SL.Sem Cert.Kernel

/-- The kernel on bit patterns runs, keeps its arguments and leaves every counter at zero: its program is word for word the one
    whose run holds for any float values. -/
theorem frame_kernel : Cert.quiescent_Kernel := fun m g _ =>
  (θ_run Cert.KernelIdeal.defs _ _).mono (fun _ h => ⟨fun c => (h.1 c).2, h.2⟩) (AllGather.run_main (F := Bits) m g)

/-- So does the kernel on extended reals; -/
theorem frame_kernelIdeal : Cert.quiescent_KernelIdeal := fun m g _ =>
  (θ_run Cert.KernelIdeal.defs _ _).mono (fun _ h => ⟨fun c => (h.1 c).2, h.2⟩) (AllGather.run_main (F := Ideal) m g)

/-- and the reference. -/
theorem frame_reference : Cert.quiescent_ReferenceIdeal := fun m g _ => AllGather.run_reference m g

/-- Every device's result is the reference's. -/
theorem value : Cert.algebraic_KernelIdeal_ReferenceIdeal := fun m g m' g' _ hm =>
  ⟨_, (θ_run Cert.KernelIdeal.defs _ _).mono (fun _ h c => ⟨((h.1 c).1).trans (AllGather.gath_blocks m _ hm), (h.1 c).2⟩) (AllGather.run_main (F := Ideal) m g),
    (θ_run Cert.ReferenceIdeal.defs _ _).mono (fun _ h => ⟨h.1 0, h.1 0⟩) (AllGather.run_reference m' g')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
